-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/- The exchange the kernel performs, as a protocol over semaphores.

   The eight devices fall into four couples that differ in the last mesh axis only. Each device copies its whole
   argument block into its mate's landing buffer, an array of the main memory that lives for the whole program. Two
   semaphores per device count the copy: one at the sender, counted when the source has been read, one at the
   receiver, counted when the copy has landed.

   This module fixes that vocabulary: the mate of a device, the two cells of a device, what each cell hands over when it
   has been counted, and the reading of those definitions at each cell. -/
module

public import proofs.«01_k».proof.Proof.Gen.KernelIdeal
public import Idealize.ShloMosaic.Lib.Pipeline.Kit
public import Idealize.ShloMosaic.Lib.Rounds
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

/-- The resources the whole proof speaks of, at float values `F`. -/
local notation "𝕄" => MT nD τ sig Unit (Elt F) ℕ (UR sig nD τ) ℕ

/-! ## The couples -/

/-- The device a device copies to: the one the kernel computes, which differs from it in the last mesh axis. -/
abbrev mate (c : Dev nD) : Dev nD := ⟨k0_dev1 c, Gen.k0_dev1_lt c⟩

/-- The mate of the mate is the device itself. -/
theorem mate_mate : ∀ c : Dev nD, mate (mate c) = c := by decide +kernel

/-- The mate's number differs in its last binary digit. -/
theorem mate_val : ∀ c : Dev nD, (mate c).val = c.val / 2 * 2 + (1 - c.val % 2) := by decide +kernel

/-- Taking the mate, as a permutation of the devices. -/
def mates : Dev nD ≃ Dev nD := ⟨mate, mate, mate_mate, mate_mate⟩

/-! ## Buffers and cells -/

/-- Where the rounds of this proof keep their ghost state. -/
abbrev 𝔼 : Emb (UR sig nD τ) (MT nD τ sig Unit (Elt F) ℕ (UR sig nD τ) ℕ) := emb₁

/-- The semaphore a sender waits on. -/
abbrev sendS : DmaSem sig := cc0_scratch0.sem
/-- The semaphore a receiver waits on. -/
abbrev recvS : DmaSem sig := cc0_scratch1.sem

/-- Device `c`'s sending semaphore. -/
abbrev sendCell (c : Dev nD) : GSem nD τ sig := ((c : Thread nD τ), .dma sendS)
/-- Device `c`'s receiving semaphore. -/
abbrev recvCell (c : Dev nD) : GSem nD τ sig := ((c : Thread nD τ), .dma recvS)

/-- The two semaphores are different ones. -/
theorem send_ne_recv : (SemLoc.dma sendS : SemLoc sig) ≠ .dma recvS := by decide

/-- The argument, as the kernel names it. -/
abbrev argM : Memref sig .tc .hbm S8192x1024 .f32 := Memref.whole main_arg0
/-- The landing buffer, as the kernel names it. -/
abbrev landM : Memref sig .tc .hbm S8192x1024 .f32 := Memref.whole main_v1

/-- The units one copy of a whole block counts. -/
def units : ℕ := landM.view.dmaCredit

/-- Read off the landing buffer, the amount a copy counts is `units`. -/
theorem units_land : (landM : Memref sig .tc .hbm S8192x1024 .f32).view.dmaCredit = units := by rw [units]

/-- Read off the argument, the amount a copy counts is the same. -/
theorem units_arg : (argM : Memref sig .tc .hbm S8192x1024 .f32).view.dmaCredit = units := by rw [units]

/-- A copy counts at least one unit. -/
theorem units_pos : 0 < units := View.dmaCredit_pos _ (by decide)

/-- Device `c` holds its whole buffer `b`, with contents `f`. -/
abbrev buf (c : Dev nD) (b : Ref sig .tc) (f : Buf (Elt F) ((c : Thread nD τ).loc b)) : sProp 𝕄 :=
  ((c : Thread nD τ).loc b) ↦{fullShare} f

/-- A whole buffer written over with a whole block holds that block. -/
theorem land_write (c : Dev nD) (f : Buf (Elt F) (landM.view.loc (c : Thread nD τ)))
    (x : (main_arg0 : Ref sig .tc).ty.Contents (Elt F)) :
    landM.view.write (Elt F) f (argM.view.read (Elt F) x) Finset.univ = x :=
  (congrArg (fun y => (View.whole main_v1).write (Elt F) f y Finset.univ) (View.read_whole _ _)).trans
    (View.write_whole_univ _ _ _)

/-! ## What the cells hand over -/

variable (m : (ℓ : Loc nD τ sig) → Buf (Elt F) ℓ)

/-- The block device `c` starts with. -/
abbrev block (c : Dev nD) : Buf (Elt F) ((c : Thread nD τ).loc main_arg0) := m ((c : Thread nD τ).loc main_arg0)

/-- A sending cell, once counted, hands back the argument that was being read. -/
def lent (c : Dev nD) : sProp 𝕄 := buf c main_arg0 (block m c)

/-- A receiving cell, once counted, hands over the landing buffer with the mate's block in it. -/
def landed (c : Dev nD) : sProp 𝕄 := buf c main_v1 (block m (mate c))

/-- One round, round 0, on each of the sixteen cells, made of one contribution of a whole block's units. -/
def plan : Rounds.Schedule (GSem nD τ sig) Unit 𝕄 where
  duties _ r := if r = 0 then {()} else ∅
  amount _ _ _ := units
  payload g _ _ := if g.2 = .dma sendS then lent m g.1.1 else landed m g.1.1
  amount_pos _ _ _ _ := units_pos

/-- What a cell hands over may be kept in it. -/
instance plan_storable (g : GSem nD τ sig) (r : ℕ) (d : Unit) :
    BI.Storable (upEmb : UEmb _ 𝕄) ((plan m).payload g r d) := by
  show BI.Storable upEmb (if g.2 = .dma sendS then lent m g.1.1 else landed m g.1.1)
  unfold lent landed
  split <;> infer_instance

/-- The one contribution of round 0. -/
theorem duty_mem (g : GSem nD τ sig) : () ∈ (plan m).duties g 0 := Finset.mem_singleton_self _

/-- After round 0 nothing is expected any more. -/
theorem duties_past (g : GSem nD τ sig) (r : ℕ) (h : 1 ≤ r) : (plan m).duties g r = ∅ := if_neg (by omega)

/-- Round 0 expects one block's units. -/
theorem plan_expect (g : GSem nD τ sig) : (plan m).expect g 0 = units := Finset.sum_singleton _ _

/-- What a sending cell hands back. -/
theorem payload_send (c : Dev nD) : (plan m).payload (sendCell c) 0 () = lent m c := by
  dsimp only [plan]; rw [if_pos rfl]

/-- What a receiving cell hands over. -/
theorem payload_recv (c : Dev nD) : (plan m).payload (recvCell c) 0 () = landed m c := by
  dsimp only [plan]; rw [if_neg send_ne_recv.symm]

/-- The whole of round 0 of a cell is its one payload. -/
theorem round_all (g : GSem nD τ sig) :
    bigSep ((plan m).duties g 0 \ ∅) (fun d => (plan m).payload g 0 d) = (plan m).payload g 0 () := by
  rw [Finset.sdiff_empty]
  exact BI.bigSep_singleton

/-- The cell `g` follows the plan, under some name. -/
def known (g : GSem nD τ sig) : sProp 𝕄 := iprop(∃ κ : ℕ, cellInv 𝔼 (plan m) κ g)

/-- That a cell follows the plan may be used any number of times. -/
instance known_persistent (g : GSem nD τ sig) : BI.Persistent (known m g) := by unfold known; infer_instance

end Cert.Exchange

end
-- ==== Proof.Body.lean ====
/- What the kernel's body does on one device.

   It starts the copy of the whole argument into the mate's landing buffer, waits until its own argument has been read,
   and waits until the mate's copy has landed. It leaves the argument as it was, the mate's block in the landing buffer
   and both semaphores at zero. -/
module

public import proofs.«01_k».proof.Proof.Protocol

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ (UR sig nD τ) ℕ

/-- The kernel body is one straight line: no loop of its own needs a measure. -/
abbrev 𝒱₀ : Variants := Variants.none

variable (m : (ℓ : Loc nD τ sig) → Buf (Elt F) ℓ)

/-- The kernel's body on the operands @main gives it. -/
abbrev body : Prog (TpuEff nD τ sig (Elt F) Λ₀ .tc) PUnit :=
  cc0_body argM (Memref.isWhole_whole _) landM (Memref.isWhole_whole _) cc0_scratch0 cc0_scratch1

/-- What device `c` owes its mate from the start: the units of the copy it will start. -/
abbrev due (c : Dev nD) : CellTallies nD τ sig Unit := tallyAt (recvCell (mate c)) () units

/-- What device `c` keeps of its own: its two cells, where it stands in each, the right to count its own sending
    cell, the units it may wait for, and its argument. -/
def mine (c : Dev nD) : sProp 𝕄 :=
  iprop(known m (sendCell c) ∗ known m (recvCell c)
    ∗ atPos 𝔼 (sendCell c) 0 ∅ 0 ∗ atPos 𝔼 (recvCell c) 0 ∅ 0
    ∗ dutyTok 𝔼 (sendCell c) 0 () ∗ reached 𝔼 (sendCell c) 0
    ∗ cred (tallyAt (recvCell c) () units) ∗ buf c main_arg0 (block m c))

/-- What device `d` puts at its mate's disposal: its receiving cell, the right to count it, and its landing buffer with
    whatever it holds. -/
def offer (d : Dev nD) : sProp 𝕄 :=
  iprop(known m (recvCell d) ∗ dutyTok 𝔼 (recvCell d) 0 () ∗ reached 𝔼 (recvCell d) 0
    ∗ buf d main_v1 (m ((d : Thread nD τ).loc main_v1)))

/-- What the body leaves on device `c`: both semaphores at zero, the argument as it was, and the mate's block in the
    landing buffer. -/
def done (c : Dev nD) : sProp 𝕄 :=
  iprop((semVal (sendCell c) 0 ∗ semVal (recvCell c) 0) ∗ buf c main_arg0 (block m c) ∗ buf c main_v1 (block m (mate c)))

/-- A cell past its only round is closed, and its semaphore is in hand at zero. -/
theorem close_cell (κ : ℕ) (g : GSem nD τ sig) :
    iprop(cellInv 𝔼 (plan m) κ g ∗ atPos 𝔼 g (0 + 1) ∅ 0) ⊢ (|={Set.univ}=> semVal g 0 : sProp 𝕄) :=
  Rounds.cell_close 𝔼 (plan m) (Set.mem_univ κ) id (duties_past m g)

/-- The body's run on device `c`, from what the device keeps and what its mate offers. -/
theorem body_run (c : Dev nD) (W : Waits sig Unit) (K : PUnit → sProp 𝕄) :
    iprop((mine m c ∗ offer m (mate c) ∗ owes (c : Thread nD τ) (due c) W)
        ∗ ((done m c ∗ ∃ W, owes (c : Thread nD τ) (0 : CellTallies nD τ sig Unit) W) -∗ K ⟨⟩))
      ⊢ wp frame (wpE (defs₀ (F := F)) 𝒱₀ c none) Set.univ (body (F := F)) K := by
  simp only [body, cc0_body, Prog.lift, Prog.bind_op, Prog.bind_ret, Prog.pure_eq_ret, wp_deviceId]
  unfold mine offer known
  iintro ⟨⟨⟨⟨%κs, #Is⟩, ⟨%κr, #Ir⟩, As, Ar, Ts, #Rs, Cr, Hx⟩, ⟨⟨%κp, #Ip⟩, Tp, #Rp, Hl⟩, HO⟩, Hk⟩
  -- the copy is started: it takes the argument and the mate's landing buffer, and pays what was owed
  iapply (Rounds.wp_send_pointsTo 𝒱₀ 𝔼 (plan m) (c : Thread nD τ) none (c' := (mate c : Thread nD τ)) (src := argM) (dst := landM)
      (sS := .dma sendS) (sem := .dma recvS) (q := fullShare) (fs := block m c) (κ₁ := κs) (κ₂ := κp)
      (r₁ := 0) (r₂ := 0) (d₁ := ()) (d₂ := ()) (fd := m ((mate c : Thread nD τ).loc main_v1))
      (duty_mem m _) (duty_mem m _) () () units rfl rfl rfl 0 (zero_add _).symm (W := W)
      (by rw [payload_send, View.set_whole]; exact .rfl)
      (by rw [payload_recv, land_write, View.set_whole]; unfold landed; rw [mate_mate])) $$ [Hx Hl HO Ts Tp]
  · isplitr; · iexact Is
    isplitr; · iexact Ip
    isplitl [Hx]; · rw [View.set_whole]; iexact Hx
    isplitl [Hl]; · rw [View.set_whole]; iexact Hl
    isplitl [HO]; · iexact HO
    isplitl [Ts]; · iexact Ts
    isplitr; · iexact Rs
    isplitl [Tp]; · iexact Tp
    iexact Rp
  iintro ⟨Cs, HO⟩
  -- the argument has been read and comes back
  iapply (Rounds.wp_wait_rest_token 𝒱₀ 𝔼 (plan m) (c : Thread nD τ) none (κ := κs) (k' := units)
      (fun K' => (wpE_waitDma2_eq 𝒱₀ (c : Thread nD τ) none Set.univ K').trans (by rw [units_arg])) (Set.mem_univ _) () (O := 0) (W := W) (R := 0) (m := 0) (T := ∅)
      ((Nat.zero_add _).trans (plan_expect m (sendCell c)).symm)) $$ [Cs HO As]
  · isplitr; · iexact Is
    isplitl [Cs]; · iexact Cs
    isplitl [HO]; · iexact HO
    isplitr; · rw [MayWait_zero]; iempintro
    iexact As
  iintro ⟨HO, As, -, Hp⟩
  ihave Hx := (Entails.of_eq ((round_all m (sendCell c)).trans (payload_send m c))) $$ Hp
  -- the mate's copy has landed
  iapply (Rounds.wp_wait_rest_token 𝒱₀ 𝔼 (plan m) (c : Thread nD τ) none (κ := κr) (k' := units)
      (fun K' => (wpE_waitDma2_eq 𝒱₀ (c : Thread nD τ) none Set.univ K').trans (by rw [units_land])) (Set.mem_univ _) () (O := 0)
      (W := insert (SemLoc.dma sendS, ()) W) (R := 0) (m := 0) (T := ∅)
      ((Nat.zero_add _).trans (plan_expect m (recvCell c)).symm)) $$ [Cr HO Ar]
  · isplitr; · iexact Ir
    isplitl [Cr]; · iexact Cr
    isplitl [HO]; · iexact HO
    isplitr; · rw [MayWait_zero]; iempintro
    iexact Ar
  iintro ⟨HO, Ar, -, Hp⟩
  ihave Hl := (Entails.of_eq ((round_all m (recvCell c)).trans (payload_recv m c))) $$ Hp
  -- both cells are closed
  rw [wp_ret]
  imod (close_cell m κs (sendCell c)) $$ [As] with Zs
  · isplitr; · iexact Is
    iexact As
  imod (close_cell m κr (recvCell c)) $$ [Ar] with Zr
  · isplitr; · iexact Ir
    iexact Ar
  imodintro
  iapply Hk
  unfold done lent landed
  isplitr [HO]
  · isplitl [Zs Zr]; · isplitl [Zs] <;> iassumption
    isplitl [Hx] <;> iassumption
  iexists _; iexact HO

end Cert.Exchange

end
-- ==== Proof.Region.lean ====
/- The kernel call on one device.

   The call has no window, no table and no grid: it is one run of the body between entry and exit. This module wraps the
   body's run accordingly: the call takes what the device keeps and what its mate offers, and gives back both buffers
   with their contents, its two semaphores at zero, and no debt. -/
module

public import proofs.«01_k».proof.Proof.Body
public import proofs.«01_k».proof.Proof.Gen.KernelIdeal.Launch

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ (UR sig nD τ) ℕ

variable (m : (ℓ : Loc nD τ sig) → Buf (Elt F) ℓ)

/-- The call reads no table. -/
abbrev adm : (p : Fin 1) → (pcfgs (F := F) p).Adm := fun p => (cfgs p).toPCfg_adm

/-- The call's one point: before it the device has everything it needs and owes its mate one copy; after it, the body's
    results are there and nothing is owed. -/
def dat (c : Dev nD) : Pipeline.Dat τ (Elt F) Unit ℕ (UR sig nD τ) ℕ cfg0 c where
  A w := w.elim0
  after w := w.elim0
  Φ t := if t.val = 0 then iprop(mine m c ∗ offer m (mate c)) else done m c
  q w := w.elim0
  owed t := if t.val = 0 then due c else 0

/-- The same for every call of the program: there is one. -/
abbrev dats : (p : Fin 1) → (c : Dev nD) → Pipeline.Dat τ (Elt F) Unit ℕ (UR sig nD τ) ℕ (Pipeline.pin (pcfgs (F := F)) adm p) c :=
  fun _ c => dat m c

/-- A separating conjunction over the windows of the call is empty. -/
theorem no_window (Φ : Fin 0 → sProp 𝕄) : bigSep Finset.univ Φ = BI.emp :=
  bigSep_univ_eq_bigSepL [] (by decide) (by decide) Φ

/-- On entry device `c` owes all that its copy will count. -/
theorem owed_first (c : Dev nD) : (dat m c).owed 0 = due c := by simp [dat]
/-- On return it owes nothing. -/
theorem owed_last (c : Dev nD) : (dat m c).owed (Fin.last _) = 0 := by
  simp [dat, show cfg0.N = 1 from Gen.N_0]
/-- On entry it holds its own share and the landing buffer that its mate offers. -/
theorem inv_first (c : Dev nD) : (dat m c).Φ 0 = iprop(mine m c ∗ offer m (mate c)) := by simp [dat]
/-- On return it holds what the finished exchange leaves it. -/
theorem inv_last (c : Dev nD) : (dat m c).Φ (Fin.last _) = done m c := by
  simp [dat, show cfg0.N = 1 from Gen.N_0]

/-- The debt before the point. -/
theorem owes_first (c : Dev nD) (W : Waits sig Unit) :
    (owes (c : Thread nD τ) (due c) W : sProp 𝕄) ⊢ (dat m c).owesAt () 0 := by
  unfold Pipeline.Dat.owesAt Pipeline.owesWithin Pipeline.Dat.bound
  rw [owed_first]
  iintro HO
  iexists W
  isplitr
  · ipureintro; exact fun _ _ => Or.inl trivial
  iexact HO

/-- No debt is left after the point. -/
theorem owes_last (c : Dev nD) :
    (dat m c).owesAt () (Fin.last _) ⊢ (iprop(∃ W, owes (c : Thread nD τ) (0 : CellTallies nD τ sig Unit) W) : sProp 𝕄) := by
  unfold Pipeline.Dat.owesAt Pipeline.owesWithin
  rw [owed_last]
  iintro ⟨%W, -, HO⟩
  iexists W; iexact HO

/-- The absence of a debt, as the call states it. -/
theorem owes_last_intro (c : Dev nD) :
    (iprop(∃ W, owes (c : Thread nD τ) (0 : CellTallies nD τ sig Unit) W) : sProp 𝕄) ⊢ (dat m c).owesAt () (Fin.last _) := by
  unfold Pipeline.Dat.owesAt Pipeline.owesWithin Pipeline.Dat.bound
  rw [owed_last]
  iintro ⟨%W, HO⟩
  iexists W
  isplitr
  · ipureintro; exact fun _ _ => Or.inl trivial
  iexact HO

/-- The state before the only grid point is the first one; -/
theorem pt_castSucc : (Gen.t0_0).castSucc = (0 : Fin (grid0.N + 1)) := Fin.ext rfl
/-- the state after it is the last one. -/
theorem pt_succ : (Gen.t0_0).succ = Fin.last grid0.N := Fin.ext Gen.N_0.symm

/-- The call's body meets its obligation at the one point. -/
theorem dat_body (c : Dev nD) : Pipeline.BodyObligation (dat m c) (defs₀ (F := F)) 𝒱₀ () Set.univ := fun t => by
  obtain rfl := Gen.fin_N0 t
  rw [no_window, no_window, pt_castSucc, pt_succ, inv_first, inv_last]
  iintro ⟨⟨HM, HF⟩, HO, -⟩
  unfold Pipeline.Dat.owesAt Pipeline.owesWithin
  rw [owed_first]
  icases HO with ⟨%W, -, HO⟩
  iapply (body_run m c W)
  isplitr []
  · isplitl [HM]; · iexact HM
    isplitl [HF] <;> iassumption
  iintro ⟨HD, HO⟩
  isplitl [HD]; · iexact HD
  isplitr []
  · iapply (owes_last_intro m c); iexact HO
  iempintro

/-- A device's scoped semaphores at zero: there are its two cells and no other. -/
theorem zero_sems (c : Dev nD) :
    (scopedSems0 (c : Thread nD τ) : sProp 𝕄) = iprop(semVal (sendCell c) 0 ∗ semVal (recvCell c) 0) :=
  (scopedSems0_tc c).trans (bigSep_eq_bigSepL_of_eq [SemLoc.dma sendS, .dma recvS] (by decide) (by decide) _)

/-- A device has no scoped buffer. -/
theorem no_scoped (c : Dev nD) : (scopedBufs (c : Thread nD τ) : sProp 𝕄) = BI.emp :=
  (scopedBufs_tc c).trans (bigSep_eq_bigSepL_of_eq [] (by decide) (by decide) _)

/-- The program's calls, under the kernel's own table. -/
abbrev 𝔻 : Defs nD τ sig (Elt F) (Pipeline.Sig Λ₀ (Fin 1) fun p => (pcfgs (F := F) p).Adm) := Pipeline.defs pcfgs defs₀

/-- The kernel call on device `c`: it uses up what the device keeps and what its mate offers, and pays what the device
    owes; afterwards the device has its argument as it was, the mate's block in the landing buffer, its two semaphores
    at zero, and owes nothing. -/
theorem call_run (c : Dev nD) (k : PUnit → Prog (TpuEff nD τ sig (Elt F) (Pipeline.Sig Λ₀ (Fin 1) fun p => (pcfgs (F := F) p).Adm) .tc) PUnit)
    (Q : PUnit → sProp 𝕄) :
    iprop((mine m c ∗ offer m (mate c)) ∗ owes (c : Thread nD τ) (due c) ∅)
      ⊢ iprop((((buf c main_arg0 (block m c) ∗ buf c main_v1 (block m (mate c)))
              ∗ scopedSems0 (c : Thread nD τ) ∗ ∃ W, owes (c : Thread nD τ) (0 : CellTallies nD τ sig Unit) W)
            -∗ wp frame (wpE (𝔻 (F := F)) (Variants.lift 𝒱₀) (c : Thread nD τ) none) Set.univ (k ⟨⟩) Q)
          -∗ wp frame (wpE (𝔻 (F := F)) (Variants.lift 𝒱₀) (c : Thread nD τ) none) Set.univ (.op (.customCall (Pipeline.entry 0) ()) k) Q) := by
  have hstage : Pipeline.Dat.staging cfg0 c = (BI.emp : sProp 𝕄) := no_window _
  have hcells : Pipeline.cellsSems0 (Pipeline.pin (pcfgs (F := F)) adm) 0 c = (BI.emp : sProp 𝕄) := no_window _
  have hpref : Pipeline.prefHeld (pcfgs (F := F) 0).pre c (fun _ => fullShare) (adm (F := F) 0).1 = (BI.emp : sProp 𝕄) := no_window _
  have harr : (dats m 0 c).arrays (fun w => (dats m 0 c).arrAt w 0) = (BI.emp : sProp 𝕄) := no_window _
  have hwait : Pipeline.PerCore.cellsWaits (fun _ => Pipeline.pin (pcfgs (F := F)) adm) (dats m) () 0 c = (BI.emp : sProp 𝕄) := no_window _
  have hinit : Pipeline.PerCore.cellsInit (fun _ => Pipeline.pin (pcfgs (F := F)) adm) (dats m) 𝔼 (fun _ => 0) 0 c = (BI.emp : sProp 𝕄) := no_window _
  have htok : Pipeline.PerCore.toksInit (fun _ => Pipeline.pin (pcfgs (F := F)) adm) 𝔼 0 c = (BI.emp : sProp 𝕄) := no_window _
  have hpre : (dat m c).owesAt () 0 ⊢ Pipeline.EntryPre (Pipeline.pin (pcfgs (F := F)) adm) (dats m) () 𝔼 (fun _ => 0) 0 c := by
    unfold Pipeline.EntryPre Pipeline.PerCore.EntryPre
    iintro HO
    isplitr; · rw [harr]; iempintro
    isplitl [HO]; · iexact HO
    isplitr; · rw [hwait]; iempintro
    isplitr; · rw [hinit]; iempintro
    rw [htok]; iempintro
  have hpost : Pipeline.EntryPost (Pipeline.pin (pcfgs (F := F)) adm) (dats m) () 0 c ⊢ (dat m c).owesAt () (Fin.last _) := by
    unfold Pipeline.EntryPost Pipeline.PerCore.EntryPost
    iintro ⟨-, HO⟩
    iexact HO
  iintro ⟨HX, HO⟩ Hk
  iapply (Pipeline.wp_customCall_entry_frame (pcfgs (F := F)) adm (dats m) () 𝔼 (fun _ => 0) Gen.cellOf_inj 0 defs₀ 𝒱₀
    (fun _ => fullShare) c Set.univ (fun _ _ => Set.mem_univ _) (dat_body m c).loose (fun w => w.elim0) none (fun u h => nomatch h)
    (X := iprop(mine m c ∗ offer m (mate c)))
    (Y := iprop(buf c main_arg0 (block m c) ∗ buf c main_v1 (block m (mate c)))) (R := BI.emp) (I := BI.emp)
    (by rw [no_scoped]; show _ ⊢ iprop(Pipeline.Dat.staging cfg0 c ∗ emp); rw [hstage]; iintro -; isplitr <;> iempintro)
    (by show _ ⊢ (dat m c).Φ 0; rw [inv_first]; iintro ⟨HX, -⟩; iexact HX)
    (by
      show iprop((dat m c).Φ (Fin.last _) ∗ _) ⊢ _
      rw [inv_last, no_scoped, zero_sems]
      unfold done
      iintro ⟨⟨HZ, HB⟩, -⟩
      isplitl [HB]; · iexact HB
      isplitl [HZ]; · iexact HZ
      iempintro)) $$ [HX HO]
  · isplitl [HO]
    · iapply hpre; iapply (owes_first m c ∅); iexact HO
    rw [hpref]
    isplitr [HX]; · iempintro
    isplitl [HX]; · iexact HX
    rw [no_scoped]
    isplitr <;> iempintro
  iintro ⟨HE, HY, HZ, -⟩
  iapply Hk
  isplitl [HY]; · iexact HY
  isplitl [HZ]; · iexact HZ
  iapply (owes_last m c)
  iapply hpost
  iexact HE

end Cert.Exchange

end
-- ==== Proof.Device.lean ====
/- The whole program on one device.

   After the kernel call the host adds the device's own block and the block that landed, and writes the sum into the
   result buffer. -/
module

public import proofs.«01_k».proof.Proof.Region
public import Idealize.ShloMosaic.Lib.StableHlo

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ (UR sig nD τ) ℕ

variable (m : (ℓ : Loc nD τ sig) → Buf (Elt F) ℓ)

/-- What the program leaves in the result buffer of device `c`: its own block plus its mate's, entry by entry. -/
def total (c : Dev nD) : Buf (Elt F) ((c : Thread nD τ).loc main_v2) :=
  (addf : (⟨S8192x1024, .f32⟩ : BufTy).Contents (Elt F) → (⟨S8192x1024, .f32⟩ : BufTy).Contents (Elt F) → (⟨S8192x1024, .f32⟩ : BufTy).Contents (Elt F))
    (block m c) (block m (mate c))

/-- The buffers of device `c` when the call has returned: as at the start, except for the landing buffer. -/
def returned (c : Dev nD) : Valuation τ sig (Elt F) :=
  Function.update (fun b => m (c, b)) (main_v1 : DevRef τ sig) (block m (mate c))

/-- The three buffers of the program. -/
abbrev three : Finset (DevRef τ sig) := {(main_arg0 : DevRef τ sig), (main_v1 : DevRef τ sig), (main_v2 : DevRef τ sig)}

/-- Holding the three buffers is holding each of them. -/
theorem held_three (c : Dev nD) (V : Valuation τ sig (Elt F)) :
    (StableHlo.held (c : Thread nD τ) three V : sProp 𝕄)
      = iprop(buf c main_arg0 (V main_arg0) ∗ buf c main_v1 (V main_v1) ∗ buf c main_v2 (V main_v2)) :=
  bigSep_eq_bigSepL_of_eq [(main_arg0 : DevRef τ sig), (main_v1 : DevRef τ sig), (main_v2 : DevRef τ sig)] (by decide) (by decide) _

/-- When the call has returned, the argument is as at the start; -/
theorem returned_arg (c : Dev nD) : returned m c main_arg0 = block m c := Function.update_of_ne (by decide) _ _
/-- the landing buffer holds the mate's block; -/
theorem returned_land (c : Dev nD) : returned m c main_v1 = block m (mate c) := Function.update_self _ _ _
/-- the result buffer is as at the start. -/
theorem returned_out (c : Dev nD) : returned m c main_v2 = m ((c : Thread nD τ).loc main_v2) := Function.update_of_ne (by decide) _ _

/-- The addition leaves the argument alone. -/
theorem added_arg (c : Dev nD) : StableHlo.after Gen.hostOps1 (returned m c) main_arg0 = block m c := by
  rw [StableHlo.after_cons, StableHlo.after_nil, StableHlo.binary_result_ne (h := by decide), returned_arg]

/-- The addition writes the sum. -/
theorem added_out (c : Dev nD) : StableHlo.after Gen.hostOps1 (returned m c) main_v2 = total m c := by
  rw [StableHlo.after_cons, StableHlo.after_nil, StableHlo.binary_result, returned_arg, returned_land]
  rfl

/-- What device `c` starts @main from. -/
def start (c : Dev nD) : sProp 𝕄 :=
  iprop(((mine m c ∗ offer m (mate c)) ∗ owes (c : Thread nD τ) (due c) ∅)
    ∗ buf c main_v2 (m ((c : Thread nD τ).loc main_v2)) ∗ opIdle (c : Thread nD τ))

/-- What it ends with: the argument as it was, the sum in the result buffer, and its semaphores at zero. -/
def final (c : Dev nD) : sProp 𝕄 :=
  iprop(buf c main_arg0 (block m c) ∗ buf c main_v2 (total m c) ∗ scopedSems0 (c : Thread nD τ))

/-- @main on device `c`. -/
theorem device_run (c : Dev nD) :
    start m c ⊢ wp frame (wpE (𝔻 (F := F)) (Variants.lift 𝒱₀) (c : Thread nD τ) none) Set.univ (main (F := F) c)
      fun _ => iprop(final m c ∗ ∃ W, owes (c : Thread nD τ) (0 : CellTallies nD τ sig Unit) W) := by
  rw [Gen.main_chain]
  simp only [Pipeline.chain_cons, Pipeline.chain_nil, Prog.lift, Prog.bind_op, Prog.bind_ret]
  unfold start
  iintro ⟨HX, Hv, Hidle⟩
  iapply (call_run m c) $$ HX
  iintro ⟨⟨Ha, Hl⟩, HZ, HO⟩
  iapply (StableHlo.wp_seq (Variants.lift 𝒱₀) none Set.univ c three _ Gen.hostOps1
    (fun op h => by rw [List.mem_singleton.mp h]; exact subset_rfl) (fun op h => by rw [List.mem_singleton.mp h]; rfl) (returned m c)) $$ [Ha Hl Hv HZ Hidle]
  · rw [held_three, returned_arg, returned_land, returned_out]
    unfold boundary
    rw [no_scoped]
    isplitl [HZ Hidle]
    · isplitr; · iempintro
      isplitl [HZ] <;> iassumption
    isplitl [Ha]; · iexact Ha
    isplitl [Hl] <;> iassumption
  rw [held_three, added_arg, added_out]
  iintro ⟨HB, ⟨Ha, -, Hv⟩⟩
  unfold boundary final
  icases HB with ⟨-, HZ, -⟩
  rw [Prog.pure_eq_ret, wp_ret]
  imodintro
  isplitr [HO]
  · isplitl [Ha]; · iexact Ha
    isplitl [Hv] <;> iassumption
  iexact HO

end Cert.Exchange

end
-- ==== Proof.Launch.lean ====
/- The start of the program.

   The eight devices start with zero semaphores, their argument blocks, and a debt each: the copy they will make into
   their mate's landing buffer. This module puts the sixteen semaphores under the plan of the exchange, and hands every
   device what its run needs, among it its mate's landing buffer. -/
module

public import proofs.«01_k».proof.Proof.Device

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ (UR sig nD τ) ℕ

variable (m : (ℓ : Loc nD τ sig) → Buf (Elt F) ℓ)

/-- The sending cells, by device. -/
def sendE : Dev nD ↪ GSem nD τ sig := ⟨sendCell, fun _ _ h => congrArg (fun g => g.1.1) h⟩
/-- The receiving cells, by device. -/
def recvE : Dev nD ↪ GSem nD τ sig := ⟨recvCell, fun _ _ h => congrArg (fun g => g.1.1) h⟩

/-- The sixteen cells of the exchange. -/
def cells : Finset (GSem nD τ sig) := Finset.univ.map sendE ∪ Finset.univ.map recvE

/-- One contribution to round 0 of each cell. -/
def shares : Finset (GSem nD τ sig × ℕ × Unit) := cells.map ⟨fun g => (g, 0, ()), fun _ _ h => congrArg Prod.fst h⟩

/-- No cell is both a sending and a receiving one. -/
theorem cells_disjoint : Disjoint (Finset.univ.map sendE) (Finset.univ.map recvE) :=
  Finset.disjoint_left.mpr fun g hs hr => by
    obtain ⟨c, -, rfl⟩ := Finset.mem_map.mp hs
    obtain ⟨d, -, h⟩ := Finset.mem_map.mp hr
    exact send_ne_recv (congrArg Prod.snd h).symm

/-- What holds of every cell holds of every device's two. -/
theorem over_cells (Φ : GSem nD τ sig → sProp 𝕄) :
    bigSep cells Φ = iprop((bigSep Finset.univ fun c => Φ (sendCell c)) ∗ bigSep Finset.univ fun c => Φ (recvCell c)) := by
  unfold cells
  rw [bigSep_union cells_disjoint, BI.bigSep_map, BI.bigSep_map]
  rfl

/-- What holds of every contribution holds at every device's two cells. -/
theorem over_shares (Φ : GSem nD τ sig × ℕ × Unit → sProp 𝕄) :
    bigSep shares Φ = iprop((bigSep Finset.univ fun c => Φ (sendCell c, 0, ())) ∗ bigSep Finset.univ fun c => Φ (recvCell c, 0, ())) := by
  unfold shares
  rw [BI.bigSep_map]
  exact over_cells _

/-- The ghost state the exchange starts from. -/
def seed : UR sig nD τ := initOf cells shares

/-- A semaphore at zero is put under the plan. -/
theorem cell_known (g : GSem nD τ sig) :
    iprop(semVal g 0 ∗ roundState 𝔼 (plan m) g 0) ⊢ (|={Set.univ}=> known m g : sProp 𝕄) :=
  (Rounds.body_intro 𝔼 (plan m) g).trans inv_alloc

/-- What the exchange gives a device about its own two cells. -/
def share (c : Dev nD) : sProp 𝕄 :=
  iprop((known m (sendCell c) ∗ known m (recvCell c))
    ∗ (reached 𝔼 (sendCell c) 0 ∗ reached 𝔼 (recvCell c) 0)
    ∗ (atPos 𝔼 (sendCell c) 0 ∅ 0 ∗ atPos 𝔼 (recvCell c) 0 ∅ 0)
    ∗ dutyTok 𝔼 (sendCell c) 0 () ∗ dutyTok 𝔼 (recvCell c) 0 ())

/-- The ghost state of the exchange, cell by cell. -/
theorem seeded : (ownU seed : sProp 𝕄)
    ⊢ iprop(|==> (bigSep cells (fun g => roundState 𝔼 (plan m) g 0) ∗ bigSep cells (fun g => reached 𝔼 g 0)
      ∗ bigSep cells (fun g => atPos 𝔼 g 0 ∅ 0) ∗ bigSep shares (fun x => dutyTok 𝔼 x.1 x.2.1 x.2.2))) :=
  Rounds.fund 𝔼 (plan m) cells shares

/-- All sixteen cells are put under the plan at once. -/
theorem funded :
    iprop((bigSep Finset.univ fun c : Dev nD => scopedSems0 (c : Thread nD τ)) ∗ ownU seed)
      ⊢ (|={Set.univ}=> bigSep Finset.univ fun c => share m c : sProp 𝕄) := by
  have hknown : iprop(bigSep cells (fun g => semVal g 0) ∗ bigSep cells (fun g => roundState 𝔼 (plan m) g 0))
      ⊢ (|={Set.univ}=> bigSep cells fun g => known m g : sProp 𝕄) := by
    rw [← bigSep_sep']
    exact (bigSep_mono fun g _ => cell_known m g).trans (bigSep_fupd _ _)
  have hsems : (bigSep Finset.univ fun c : Dev nD => scopedSems0 (c : Thread nD τ) : sProp 𝕄) = bigSep cells (fun g => semVal g 0) := by
    rw [over_cells, ← bigSep_sep']
    exact bigSep_congr fun c _ => zero_sems c
  rw [hsems]
  unfold share
  simp only [bigSep_sep']
  iintro ⟨Hz, HU⟩
  imod (seeded m) $$ HU with ⟨Hst, Hre, Hat, Htok⟩
  imod hknown $$ [Hz Hst] with Hk
  · isplitl [Hz] <;> iassumption
  imodintro
  isplitl [Hk]; · iapply (Entails.of_eq (over_cells fun g => known m g)); iexact Hk
  isplitl [Hre]; · iapply (Entails.of_eq (over_cells fun g => reached 𝔼 g 0)); iexact Hre
  isplitl [Hat]; · iapply (Entails.of_eq (over_cells fun g => atPos 𝔼 g 0 ∅ 0)); iexact Hat
  iapply (Entails.of_eq (over_shares fun x => dutyTok 𝔼 x.1 x.2.1 x.2.2)); iexact Htok

/-- What device `c` holds at the start besides its semaphores. -/
def stock (c : Dev nD) : sProp 𝕄 :=
  iprop((buf c main_arg0 (block m c) ∗ buf c main_v1 (m ((c : Thread nD τ).loc main_v1)) ∗ buf c main_v2 (m ((c : Thread nD τ).loc main_v2)))
    ∗ owes (c : Thread nD τ) (due c) ∅ ∗ cred (tallyAt (recvCell c) () units) ∗ opIdle (c : Thread nD τ))

/-- The buffers of a device at the start. -/
theorem all_bufs (c : Dev nD) :
    (unscopedBufs c (fun b => m ((c : Thread nD τ).loc b)) : sProp 𝕄)
      = iprop(buf c main_arg0 (block m c) ∗ buf c main_v1 (m ((c : Thread nD τ).loc main_v1)) ∗ buf c main_v2 (m ((c : Thread nD τ).loc main_v2))) :=
  bigSep_eq_bigSepL_of_eq [main_arg0, main_v1, main_v2] (by decide) (by decide) _

/-- What the machine gives device `c` at the start. -/
theorem opened (g : Dev nD → PrngReg) (c : Dev nD) :
    (coreInit (Pipeline.owing due) 0 (⟨m, fun _ => 0, g⟩ : MemSt nD τ sig (Elt F)) (c : Thread nD τ) : sProp 𝕄)
      ⊢ iprop(scopedSems0 (c : Thread nD τ) ∗ stock m c) := by
  refine (Pipeline.coreInit_boundary_owing due m g c).trans ?_
  unfold boundary stock
  rw [all_bufs]
  iintro ⟨⟨-, HZ, Hi⟩, HB, -, HO, -, -, HC⟩
  isplitl [HZ]; · iexact HZ
  isplitl [HB]; · iexact HB
  isplitl [HO]; · iexact HO
  isplitl [HC]
  · iapply (Pipeline.launchCred_tallyAt (.dma recvS) mate mate mate_mate mate_mate () units c); iexact HC
  iexact Hi

/-- What a device has of its own, what it offers its mate, and the rest of what its run needs. -/
theorem sorted (c : Dev nD) :
    iprop(share m c ∗ stock m c)
      ⊢ iprop(mine m c ∗ offer m c ∗ owes (c : Thread nD τ) (due c) ∅
        ∗ buf c main_v2 (m ((c : Thread nD τ).loc main_v2)) ∗ opIdle (c : Thread nD τ) : sProp 𝕄) := by
  unfold share stock mine offer
  iintro ⟨⟨⟨#Ks, #Kr⟩, ⟨#Rs, #Rr⟩, ⟨As, Ar⟩, Ts, Tr⟩, ⟨Hx, Hl, Hv⟩, HO, HC, Hi⟩
  isplitl [As Ar Ts HC Hx]
  · isplitr; · iexact Ks
    isplitr; · iexact Kr
    isplitl [As]; · iexact As
    isplitl [Ar]; · iexact Ar
    isplitl [Ts]; · iexact Ts
    isplitr; · iexact Rs
    isplitl [HC] <;> iassumption
  isplitl [Tr Hl]
  · isplitr; · iexact Kr
    isplitl [Tr]; · iexact Tr
    isplitr; · iexact Rr
    iexact Hl
  isplitl [HO]; · iexact HO
  isplitl [Hv] <;> iassumption

/-- The start of the program: every device gets what its run needs. Each device's offer goes to its mate. -/
theorem launched (g : Dev nD → PrngReg) :
    iprop((bigSep Finset.univ fun c : Dev nD => coreInit (Pipeline.owing due) 0 (⟨m, fun _ => 0, g⟩ : MemSt nD τ sig (Elt F)) (c : Thread nD τ))
        ∗ ownU seed)
      ⊢ (|={Set.univ}=> bigSep Finset.univ fun c => start m c : sProp 𝕄) := by
  have hopen : (bigSep Finset.univ fun c : Dev nD => coreInit (Pipeline.owing due) 0 (⟨m, fun _ => 0, g⟩ : MemSt nD τ sig (Elt F)) (c : Thread nD τ) : sProp 𝕄)
      ⊢ bigSep Finset.univ fun c : Dev nD => iprop(scopedSems0 (c : Thread nD τ) ∗ stock m c) := bigSep_mono fun c _ => opened m g c
  have hsort : (bigSep Finset.univ fun c : Dev nD => iprop(share m c ∗ stock m c) : sProp 𝕄)
      ⊢ bigSep Finset.univ fun c : Dev nD => iprop(mine m c ∗ offer m c ∗ owes (c : Thread nD τ) (due c) ∅
        ∗ buf c main_v2 (m ((c : Thread nD τ).loc main_v2)) ∗ opIdle (c : Thread nD τ)) := bigSep_mono fun c _ => sorted m c
  have hswap := BI.bigSep_univ_equiv mates fun c => (offer m c : sProp 𝕄)
  simp only [bigSep_sep'] at hopen hsort
  unfold start
  simp only [bigSep_sep']
  iintro ⟨HI, HU⟩
  ihave H := hopen $$ HI
  icases H with ⟨HZ, HS⟩
  imod (funded m) $$ [HZ HU] with HF
  · isplitl [HZ] <;> iassumption
  ihave H := hsort $$ [HF HS]
  · isplitl [HF] <;> iassumption
  icases H with ⟨HM, Hof, HO, Hv, Hi⟩
  imodintro
  isplitl [HM Hof HO]
  · isplitr [HO]
    · isplitl [HM]; · iexact HM
      iapply (Entails.of_eq hswap); iexact Hof
    iexact HO
  isplitl [Hv] <;> iassumption

end Cert.Exchange

end
-- ==== Proof.Run.lean ====
/- Every run of the whole program, on all eight devices.

   The program ends, with every argument block unchanged, every result buffer holding the device's own block plus its
   mate's, and every semaphore of the machine at zero. -/
module

public import proofs.«01_k».proof.Proof.Launch
public import Idealize.ShloMosaic.Lib.Quiescent

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ (UR sig nD τ) ℕ

variable (m : (ℓ : Loc nD τ sig) → Buf (Elt F) ℓ)

/-- What a memory shows of device `c` at the end. -/
def Ended (c : Dev nD) (s : MemSt nD τ sig (Elt F)) : Prop :=
  (s.mem ((c : Thread nD τ).loc main_arg0) = block m c ∧ s.mem ((c : Thread nD τ).loc main_v2) = total m c)
    ∧ ∀ sm : SemLoc sig, sm.isScoped .tc = true → s.sem ((c : Thread nD τ), sm) = 0

/-- What device `c` holds at the end can be read off the memory. -/
theorem read_final (c : Dev nD) (s' : Phys nD τ sig (Elt F)) :
    iprop(final m c ∗ SI s') ⊢ (|={Set.univ}=> iprop(⌜Ended m c s'.mem⌝ ∗ SI s') : sProp 𝕄) := by
  unfold final
  iintro ⟨⟨Ha, Hv, Hz⟩, HSI⟩
  ihave %hz := (tcScoped_read_pers c s') $$ [Hz HSI]
  · isplitl [Hz] <;> iassumption
  icombine HSI Ha gives %ha
  icombine HSI Hv gives %hv
  imodintro
  isplitr
  · ipureintro
    exact ⟨⟨Buf.eq_of_forall_mem_univ ha, Buf.eq_of_forall_mem_univ hv⟩, hz⟩
  iexact HSI

/-- Every run of the program from argument blocks in memory `m` ends, whatever values floats are: with the argument
    blocks as they were, the sums in the result buffers, and every semaphore at zero. -/
theorem run_main (g : Dev nD → PrngReg) :
    θ_run (defs (F := F)) (onTc main) ⟨m, fun _ => 0, g⟩ fun r =>
      (∀ c : Dev nD, r.2.mem ((c : Thread nD τ).loc main_arg0) = block m c ∧ r.2.mem ((c : Thread nD τ).loc main_v2) = total m c)
        ∧ r.2.sem = fun _ => 0 := by
  refine (θ_run 𝔻 _ _).mono (Q := fun r => (∀ c, Ended m c r.2) ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu 𝔻 _ _ _ (reflect_intro_fupd_tc_sems (X := Unit) (Variants.lift 𝒱₀) (Pipeline.owing due) 0 (noBookings fun _ => le_rfl)
      (Pipeline.owing_of_ne due) seed (fun _ => start m) (fun _ => final m) (fun _ => iprop(emp)) Set.univ ?_ (fun _ c => ?_) fun _ => ?_))
  · refine (launched m g).trans (BI.fupd_mono ?_)
    iintro H
    iexists ()
    isplitl [H]; · iexact H
    iempintro
  · exact device_run m c
  · iintro ⟨H, -, Hsc⟩ %s' HSI
    ihave %hsc := (scSems_read_zero m g s') $$ [Hsc HSI]
    · isplitl [Hsc] <;> iassumption
    imod (posts_fupd Finset.univ (read_final m) s') $$ [H HSI] with %h
    · isplitl [H] <;> iassumption
    imodintro
    ipureintro
    exact ⟨fun c => h c (Finset.mem_univ c), hsc⟩

end Cert.Exchange

end
-- ==== Proof.Reference.lean ====
/- What the reference computes.

   The reference cuts its array of 16384 rows into two halves of 8192 rows and adds them, starting from zero. Here that
   is read entry by entry, over the extended reals. -/
module

public import proofs.«01_k».proof.Proof.Gen.ReferenceIdeal
public import Idealize.ShloMosaic.Lib.Pointwise.Reduce
public import Idealize.ShloMosaic.Lib.Pipeline.Value
public import Idealize.ShloMosaic.Lib.IdealHost

@[expose] public section

noncomputable section

namespace Cert.Sum

open Idealize.ShloMosaic
open Cert.ReferenceIdeal Cert.ReferenceIdeal.Gen
open scoped BigOperators

/-- Where entry `i` of half `h` is in the whole array: `8192 · h` rows further down, in the same column. -/
def at_half (h : Fin 2) (i : S8192x1024.Idx) : S16384x1024.Idx :=
  Shape.pair ⟨h.val * 8192 + (i 0).val, by have := (i 0).isLt; have := h.isLt; change (i 0).val < 8192 at *; show _ < 16384; omega⟩ (i 1)

/-- Half `h` of an array of 16384 rows: rows `8192 · h` up to `8192 · h + 8191`. -/
def half {α : Type} (h : Fin 2) (x : S16384x1024.Idx → α) : S8192x1024.Idx → α := fun i => x (at_half h i)

/-- The reshaped array, at half `h` and an entry `i` of it, is that entry of that half. -/
theorem reshaped {α : Type} (x : S16384x1024.Idx → α) (h : Fin 2) (i : S8192x1024.Idx) (j : S2x8192x1024.Idx)
    (hj : (j 0).val = h.val ∧ (j 1).val = (i 0).val ∧ (j 2).val = (i 1).val) :
    shapeCast S2x8192x1024 x shapeCasts_S16384x1024_S2x8192x1024 j = half h x i := by
  refine shapeCast_apply x _ j (at_half h i) ?_
  rw [Shape.rowMajor_val_two, Shape.rowMajor_val_three]
  show (h.val * 8192 + (i 0).val) * 1024 + (i 1).val = ((j 0).val * 8192 + (j 1).val) * 1024 + (j 2).val
  rw [hj.1, hj.2.1, hj.2.2]

/-- The array the reference computes from `x`: the reshaped array summed over its first axis, from zero. -/
def result (x : FVec Ideal S16384x1024 .f32) : FVec Ideal S8192x1024 .f32 :=
  Host.reduceAdd (shapeCast S2x8192x1024 x shapeCasts_S16384x1024_S2x8192x1024) (constant S_ .f32 0x00000000#32)
    reducesTo_S2x8192x1024_S8192x1024_d0 h_S_

/-- Every entry the reference computes is the sum of the two halves' entries there. -/
theorem result_apply (x : FVec Ideal S16384x1024 .f32) (i : S8192x1024.Idx) :
    result x i = (half 0 x i + half 1 x i : EReal) := by
  unfold result
  rw [ValueIdx.hostReduceAdd_apply, Ideal.hostReduceAdd_r3_a0, Fin.sum_univ_two]
  rw [reshaped x 0 i _ ⟨rfl, rfl, rfl⟩, reshaped x 1 i _ ⟨rfl, rfl, rfl⟩]
  show Ideal.ofBits .f32 0x00000000#32 + _ = _
  rw [Ideal.ofBits_zero_f32, zero_add]

end Cert.Sum

end
-- ==== Proof.Blocks.lean ====
/- The equation: what the kernel leaves on a device is what the reference computes.

   Device `c` holds the half of the array that its place along the last mesh axis names, and its mate holds the other.
   So the device's own block plus its mate's is the sum of the two halves, in one order or the other. -/
module

public import proofs.«01_k».proof.Proof.Device
public import proofs.«01_k».proof.Proof.Reference
public import Idealize.ShloMosaic.Lib.Layout

@[expose] public section

noncomputable section

namespace Cert.Sum

open Idealize.ShloMosaic Idealize.ShloMosaic.TcCoe
open Cert.Exchange

/-- The block of `x` that a device of the mesh holds when rows are cut along the last mesh axis. -/
def held {α : Type} (c : Dev KernelIdeal.nD) (x : (⟨2, ![16384, 1024]⟩ : Shape).Idx → α) : (⟨2, ![8192, 1024]⟩ : Shape).Idx → α :=
  Layout.blockN ⟨2, ![8192, 1024]⟩ ⟨2, ![16384, 1024]⟩ (Layout.meshBlock [2, 2, 2] ![[2], []] c) x

/-- The half a device holds: the first for an even device, the second for an odd one. -/
def side (c : Dev KernelIdeal.nD) : Fin 2 := ⟨c.val % 2, Nat.mod_lt _ (by decide)⟩

/-- Along the last mesh axis, the block numbers of the eight devices are their halves. -/
theorem row_block : ∀ c : Dev KernelIdeal.nD, Layout.meshLin [2, 2, 2] c.val [2] = (side c).val := by decide +kernel

/-- A device holds its half of the array. -/
theorem held_eq {α : Type} (c : Dev KernelIdeal.nD) (x : (⟨2, ![16384, 1024]⟩ : Shape).Idx → α) : held c x = half (side c) x := by
  funext i
  unfold held half
  rw [Layout.blockN_apply]
  refine congrArg x (funext fun b => Fin.ext ?_)
  rw [Layout.TilesN.idx_val]
  match b with
  | ⟨0, _⟩ =>
    show Layout.meshLin [2, 2, 2] c.val [2] * 8192 + (i 0).val = (side c).val * 8192 + (i 0).val
    rw [row_block]
  | ⟨1, _⟩ =>
    show 0 * 1024 + (i 1).val = (i 1).val
    omega

/-- Either a device holds the first half and its mate the second, or the other way round. -/
theorem sides : ∀ c : Dev KernelIdeal.nD, (side c = 0 ∧ side (mate c) = 1) ∨ (side c = 1 ∧ side (mate c) = 0) := by decide +kernel

/-- If every device starts with its block of `x`, then what the kernel leaves on any device is what the reference
    computes from `x`. -/
theorem total_eq (m : (ℓ : Loc KernelIdeal.nD KernelIdeal.τ KernelIdeal.sig) → Buf (Elt Ideal) ℓ)
    (x : FVec Ideal ⟨2, ![16384, 1024]⟩ .f32) (hx : ∀ c, block m c = held c x) (c : Dev KernelIdeal.nD) :
    total m c = result x := by
  funext i
  refine Eq.trans ?_ (result_apply x i).symm
  unfold total
  rw [hx c, hx (mate c), held_eq, held_eq]
  show ((half (side c) x i : EReal) + (half (side (mate c)) x i : EReal) : EReal) = (half 0 x i + half 1 x i : EReal)
  rcases sides c with ⟨h, h'⟩ | ⟨h, h'⟩
  · rw [h, h']
  · rw [h, h', add_comm]

end Cert.Sum

end
-- ==== Proof.lean ====
/- The certificate: an all-reduce of two halves over the last axis of a 2 × 2 × 2 mesh.

   The kernel's run on eight devices is in Proof/Run.lean, the reference's arithmetic in Proof/Reference.lean, and the
   equation between the two in Proof/Blocks.lean. Here they are put together as the five claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Blocks
public import Idealize.ShloMosaic.Adequacy
public import Idealize.ShloMosaic.Init

@[expose] public section

noncomputable section

namespace Cert.Proof

open Idealize.ShloMosaic Idealize.SL.Sem

/-- The kernel at machine floats runs to an end, keeps its argument blocks, and leaves every semaphore at zero. -/
theorem frame_kernel : Cert.quiescent_Kernel := fun m g _ =>
  (θ_run Cert.KernelIdeal.defs _ _).mono (fun _ h => ⟨fun c => (h.1 c).1, h.2⟩) (Cert.Exchange.run_main (F := Bits) m g)

/-- So does the kernel over the extended reals. -/
theorem frame_ideal : Cert.quiescent_KernelIdeal := fun m g _ =>
  (θ_run Cert.KernelIdeal.defs _ _).mono (fun _ h => ⟨fun c => (h.1 c).1, h.2⟩) (Cert.Exchange.run_main (F := Ideal) m g)

/-- So does the reference, which has no semaphore at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- If each device starts with its block of the reference's array, each ends with the array the reference computes. -/
theorem same_sum : Cert.algebraic_KernelIdeal_ReferenceIdeal := fun m g m' g' _ hx =>
  ⟨Cert.Sum.result (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.Sum.total_eq m _ hx c), (h.1 c).1⟩)
      (Cert.Exchange.run_main (F := Ideal) m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, same_sum⟩

end Cert.Proof

end
